-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x10496 : Shape := ⟨3, ![128, 1, 10496]⟩
abbrev S10496x2752 : Shape := ⟨2, ![10496, 2752]⟩
abbrev S82x5504 : Shape := ⟨2, ![82, 5504]⟩
abbrev S82x2752 : Shape := ⟨2, ![82, 2752]⟩
abbrev S128x10496 : Shape := ⟨2, ![128, 10496]⟩
abbrev S128x2752 : Shape := ⟨2, ![128, 2752]⟩
abbrev S10496x256 : Shape := ⟨2, ![10496, 256]⟩
abbrev S82x256 : Shape := ⟨2, ![82, 256]⟩
abbrev S128x256 : Shape := ⟨2, ![128, 256]⟩
abbrev S1x256 : Shape := ⟨2, ![1, 256]⟩
abbrev S256x256 : Shape := ⟨2, ![256, 256]⟩
abbrev S128x2752x1 : Shape := ⟨3, ![128, 2752, 1]⟩
abbrev S128x2752x2 : Shape := ⟨3, ![128, 2752, 2]⟩
abbrev S128x1x5504 : Shape := ⟨3, ![128, 1, 5504]⟩

abbrev nBuf : Space → Nat
  | .hbm => 13
  | .vmem => 13
  | .smem => 0
  | _ => 0

abbrev bufTy : (tb : Table) → Fin (tcTables nBuf tb) → BufTy
  | .hbm, ⟨0, _⟩ => ⟨S128x1x10496, .bf16⟩
  | .hbm, ⟨1, _⟩ => ⟨S10496x2752, .i8⟩
  | .hbm, ⟨2, _⟩ => ⟨S82x5504, .bf16⟩
  | .hbm, ⟨3, _⟩ => ⟨S82x2752, .i8⟩
  | .hbm, ⟨4, _⟩ => ⟨S82x2752, .bf16⟩
  | .hbm, ⟨5, _⟩ => ⟨S82x2752, .bf16⟩
  | .hbm, ⟨6, _⟩ => ⟨S128x10496, .bf16⟩
  | .hbm, ⟨7, _⟩ => ⟨S128x2752, .bf16⟩
  | .hbm, ⟨8, _⟩ => ⟨S128x2752, .bf16⟩
  | .hbm, ⟨9, _⟩ => ⟨S128x2752x1, .bf16⟩
  | .hbm, ⟨10, _⟩ => ⟨S128x2752x1, .bf16⟩
  | .hbm, ⟨11, _⟩ => ⟨S128x2752x2, .bf16⟩
  | .hbm, ⟨12, _⟩ => ⟨S128x1x5504, .bf16⟩
  | .local _ .vmem, ⟨0, _⟩ => ⟨S128x10496, .bf16⟩
  | .local _ .vmem, ⟨1, _⟩ => ⟨S10496x256, .i8⟩
  | .local _ .vmem, ⟨2, _⟩ => ⟨S10496x256, .i8⟩
  | .local _ .vmem, ⟨3, _⟩ => ⟨S82x256, .bf16⟩
  | .local _ .vmem, ⟨4, _⟩ => ⟨S82x256, .bf16⟩
  | .local _ .vmem, ⟨5, _⟩ => ⟨S82x256, .bf16⟩
  | .local _ .vmem, ⟨6, _⟩ => ⟨S82x256, .bf16⟩
  | .local _ .vmem, ⟨7, _⟩ => ⟨S82x256, .i8⟩
  | .local _ .vmem, ⟨8, _⟩ => ⟨S82x256, .i8⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | _, _ => ⟨S128x1x10496, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x10496 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10496x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S82x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S82x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S82x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x1x10496 : Shape := ⟨3, ![128, 1, 10496]⟩
abbrev S10496x2752 : Shape := ⟨2, ![10496, 2752]⟩
abbrev S82x5504 : Shape := ⟨2, ![82, 5504]⟩
abbrev S82x2752 : Shape := ⟨2, ![82, 2752]⟩
abbrev S_ : Shape := ⟨0, ![]⟩
abbrev S82x2752x1 : Shape := ⟨3, ![82, 2752, 1]⟩
abbrev S82x2752x2 : Shape := ⟨3, ![82, 2752, 2]⟩
abbrev S82x128x2752 : Shape := ⟨3, ![82, 128, 2752]⟩
abbrev S82x1x2752 : Shape := ⟨3, ![82, 1, 2752]⟩
abbrev S128x1x2752 : Shape := ⟨3, ![128, 1, 2752]⟩
abbrev S128x1x2752x1 : Shape := ⟨4, ![128, 1, 2752, 1]⟩
abbrev S128x1x2752x2 : Shape := ⟨4, ![128, 1, 2752, 2]⟩
abbrev S128x1x5504 : Shape := ⟨3, ![128, 1, 5504]⟩

abbrev nBuf : Space → Nat
  | .hbm => 52
  | .vmem => 0
  | .smem => 0
  | _ => 0

abbrev bufTy : (tb : Table) → Fin (tcTables nBuf tb) → BufTy
  | .hbm, ⟨0, _⟩ => ⟨S128x1x10496, .bf16⟩
  | .hbm, ⟨1, _⟩ => ⟨S10496x2752, .i8⟩
  | .hbm, ⟨2, _⟩ => ⟨S82x5504, .bf16⟩
  | .hbm, ⟨3, _⟩ => ⟨S82x2752, .i8⟩
  | .hbm, ⟨4, _⟩ => ⟨S10496x2752, .i32⟩
  | .hbm, ⟨5, _⟩ => ⟨S82x2752, .i32⟩
  | .hbm, ⟨6, _⟩ => ⟨S_, .i32⟩
  | .hbm, ⟨7, _⟩ => ⟨S10496x2752, .i32⟩
  | .hbm, ⟨8, _⟩ => ⟨S10496x2752, .i32⟩
  | .hbm, ⟨9, _⟩ => ⟨S_, .i32⟩
  | .hbm, ⟨10, _⟩ => ⟨S10496x2752, .i32⟩
  | .hbm, ⟨11, _⟩ => ⟨S10496x2752, .i32⟩
  | .hbm, ⟨12, _⟩ => ⟨S_, .i32⟩
  | .hbm, ⟨13, _⟩ => ⟨S82x2752, .i32⟩
  | .hbm, ⟨14, _⟩ => ⟨S82x2752, .i32⟩
  | .hbm, ⟨15, _⟩ => ⟨S_, .i32⟩
  | .hbm, ⟨16, _⟩ => ⟨S82x2752, .i32⟩
  | .hbm, ⟨17, _⟩ => ⟨S82x2752, .i32⟩
  | .hbm, ⟨18, _⟩ => ⟨S82x2752x1, .i32⟩
  | .hbm, ⟨19, _⟩ => ⟨S82x2752x1, .i32⟩
  | .hbm, ⟨20, _⟩ => ⟨S82x2752x2, .i32⟩
  | .hbm, ⟨21, _⟩ => ⟨S82x5504, .i32⟩
  | .hbm, ⟨22, _⟩ => ⟨S82x5504, .bf16⟩
  | .hbm, ⟨23, _⟩ => ⟨S82x2752, .bf16⟩
  | .hbm, ⟨24, _⟩ => ⟨S82x2752, .bf16⟩
  | .hbm, ⟨25, _⟩ => ⟨S10496x2752, .bf16⟩
  | .hbm, ⟨26, _⟩ => ⟨S82x128x2752, .bf16⟩
  | .hbm, ⟨27, _⟩ => ⟨S82x1x2752, .bf16⟩
  | .hbm, ⟨28, _⟩ => ⟨S82x128x2752, .bf16⟩
  | .hbm, ⟨29, _⟩ => ⟨S82x128x2752, .bf16⟩
  | .hbm, ⟨30, _⟩ => ⟨S82x1x2752, .bf16⟩
  | .hbm, ⟨31, _⟩ => ⟨S82x128x2752, .bf16⟩
  | .hbm, ⟨32, _⟩ => ⟨S82x128x2752, .bf16⟩
  | .hbm, ⟨33, _⟩ => ⟨S10496x2752, .bf16⟩
  | .hbm, ⟨34, _⟩ => ⟨S82x2752, .bf16⟩
  | .hbm, ⟨35, _⟩ => ⟨S82x2752, .bf16⟩
  | .hbm, ⟨36, _⟩ => ⟨S10496x2752, .bf16⟩
  | .hbm, ⟨37, _⟩ => ⟨S82x128x2752, .bf16⟩
  | .hbm, ⟨38, _⟩ => ⟨S82x1x2752, .bf16⟩
  | .hbm, ⟨39, _⟩ => ⟨S82x128x2752, .bf16⟩
  | .hbm, ⟨40, _⟩ => ⟨S82x128x2752, .bf16⟩
  | .hbm, ⟨41, _⟩ => ⟨S82x1x2752, .bf16⟩
  | .hbm, ⟨42, _⟩ => ⟨S82x128x2752, .bf16⟩
  | .hbm, ⟨43, _⟩ => ⟨S82x128x2752, .bf16⟩
  | .hbm, ⟨44, _⟩ => ⟨S10496x2752, .bf16⟩
  | .hbm, ⟨45, _⟩ => ⟨S128x1x2752, .f32⟩
  | .hbm, ⟨46, _⟩ => ⟨S128x1x2752, .f32⟩
  | .hbm, ⟨47, _⟩ => ⟨S128x1x2752x1, .f32⟩
  | .hbm, ⟨48, _⟩ => ⟨S128x1x2752x1, .f32⟩
  | .hbm, ⟨49, _⟩ => ⟨S128x1x2752x2, .f32⟩
  | .hbm, ⟨50, _⟩ => ⟨S128x1x5504, .f32⟩
  | .hbm, ⟨51, _⟩ => ⟨S128x1x5504, .bf16⟩
  | _, _ => ⟨S128x1x10496, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.KernelBody.lean ====
/-
  The kernel body of the machine program as one triple: on staging buffers it owns, whatever they hold, it
  runs to its end, gives the five input buffers back unchanged and the two output buffers at some contents.
  The contents are left unnamed here; the frame claims do not ask for them.
-/
module

public import proofs.«01_k».proof.Proof.Gen.Kernel.Skeleton
public import proofs.«01_k».proof.Proof.Gen.Kernel.Frame
public import Idealize.ShloMosaic.Lib.Claim
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 4000000 in
/-- The kernel body on whole staging buffers: inputs at `x0` … `x4`, outputs at anything. It runs to the
    continuation holding the inputs as they were and the outputs at some contents. -/
theorem sound_kernel (c : Dev nD) (E : Set ℕ) (i : grid0.Coords)
    (arg1 : Memref sig .tc .vmem S128x10496 .bf16) (harg1 : arg1.IsWhole)
    (arg2 : Memref sig .tc .vmem S10496x256 .i8) (harg2 : arg2.IsWhole)
    (arg3 : Memref sig .tc .vmem S82x256 .bf16) (harg3 : arg3.IsWhole)
    (arg4 : Memref sig .tc .vmem S82x256 .bf16) (harg4 : arg4.IsWhole)
    (arg5 : Memref sig .tc .vmem S82x256 .i8) (harg5 : arg5.IsWhole)
    (arg6 : Memref sig .tc .vmem S128x256 .bf16) (harg6 : arg6.IsWhole)
    (arg7 : Memref sig .tc .vmem S128x256 .bf16) (harg7 : arg7.IsWhole)
    (x0 : Vec F S128x10496 .bf16) (x1 : Vec F S10496x256 .i8) (x2 : Vec F S82x256 .bf16)
    (x3 : Vec F S82x256 .bf16) (x4 : Vec F S82x256 .i8) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
            ∗ (∃ d, owns (c : Thread nD τ) arg6 fullShare d)
            ∗ (∃ d, owns (c : Thread nD τ) arg7 fullShare d)) -∗ K ⟨⟩))
      ⊢ wp frame (wpE (defs₀ (F := F)) Variants.none c none) E
          (cc0_awq_linear i arg1 harg1 arg2 harg2 arg3 harg3 arg4 harg4 arg5 harg5 arg6 harg6 arg7 harg7) K := by
  simp only [cc0_awq_linear_eq_skeleton]; unfold cc0_awq_linear_skel
  simp only [ k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton,
    k0_part30_eq_skeleton, k0_part31_eq_skeleton, k0_part32_eq_skeleton, k0_part33_eq_skeleton,
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part43_eq_skeleton, k0_part44_eq_skeleton, k0_part45_eq_skeleton,
    k0_part46_eq_skeleton, k0_part47_eq_skeleton, k0_part48_eq_skeleton, k0_part49_eq_skeleton,
    k0_part50_eq_skeleton, k0_part51_eq_skeleton, k0_part52_eq_skeleton, k0_part53_eq_skeleton,
    k0_part54_eq_skeleton, k0_part55_eq_skeleton, k0_part56_eq_skeleton, k0_part57_eq_skeleton,
    k0_part58_eq_skeleton, k0_part59_eq_skeleton, k0_part60_eq_skeleton, k0_part61_eq_skeleton,
    k0_part62_eq_skeleton, k0_part63_eq_skeleton, k0_part64_eq_skeleton, k0_part65_eq_skeleton,
    k0_part66_eq_skeleton, k0_part67_eq_skeleton, k0_part68_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  iexists _; iexists _; isplitr
  swap; · iexact H6
  ipureintro; rfl

end Cert.Kernel.Hand

end
-- ==== Proof.KernelFrame.lean ====
/-
  The frame of the machine program: every execution ends, no semaphore counter is left raised, and the four
  arguments end as they began.

  The result has 2752 columns per half and the kernel walks them in blocks of 256, so the last of the eleven
  blocks overhangs the arrays by 64 columns. What lies in a staging buffer beyond the array's edge is a word
  nothing names, and the body computes with it; so the two output buffers are carried here at unnamed contents
  (the "forgotten" windows), which is all the frame needs.
-/
module

public import proofs.«01_k».proof.Proof.KernelBody
public import Idealize.ShloMosaic.Lib.Claim
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- An input's block at a point, filled out with zero words past the array's edge. -/
def filled (c : Dev nD) (w : Fin cfg0.W) (z : Elt F (cfg0.win w).elt) (t : Fin cfg0.N) :
    (cfg0.win w).block.Idx → Elt F (cfg0.win w).elt :=
  (cfg0.win w).fill (cfg0.grid.coords t) (fun _ => z) (iblk m c w t)

/-- The data of the one pipeline: the arrays as the region finds them; after the body each input's buffer at its
    block; the outputs' entries are placeholders (their windows are forgotten). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => filled m c 1 (0#8) t
    | ⟨2, _⟩ => filled m c 2 (Scalar.ofBits .bf16 0#16) t
    | ⟨3, _⟩ => filled m c 3 (Scalar.ofBits .bf16 0#16) t
    | ⟨4, _⟩ => filled m c 4 (0#8) t
    | ⟨5, _⟩ => fun _ => Scalar.ofBits .bf16 0#16
    | ⟨6, _⟩ => fun _ => Scalar.ofBits .bf16 0#16
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]

/-- The windows nothing is said about: the two outputs. -/
def fgt : Fin cfg0.W → Bool
  | ⟨5, _⟩ => true
  | ⟨6, _⟩ => true
  | _ => false

/-- The activations' buffer holds the whole array at every point. -/
theorem before0 (c : Dev nD) (t : Fin cfg0.N) (d) : (dats m 0 c).before 0 t d = iblk m c 0 t :=
  before0_0_of m (dats m 0 c) (A_eq m c 0) (after0 m c) t d
/-- The other inputs are fetched at every point: the block inside the array, anything past its edge. -/
theorem before1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]; try rfl
theorem before2 (c : Dev nD) (t : Fin cfg0.N) (d) :
    (dats m 0 c).before 2 t d = (cfg0.win 2).fill (cfg0.grid.coords t) d (iblk m c 2 t) := by
  unfold Dat.before; rw [if_pos (fetch0_2 t)]; unfold Dat.fetched Dat.blockOf iblk; rw [A_eq]; try rfl
theorem before3 (c : Dev nD) (t : Fin cfg0.N) (d) :
    (dats m 0 c).before 3 t d = (cfg0.win 3).fill (cfg0.grid.coords t) d (iblk m c 3 t) := by
  unfold Dat.before; rw [if_pos (fetch0_3 t)]; unfold Dat.fetched Dat.blockOf iblk; rw [A_eq]; try rfl
theorem before4 (c : Dev nD) (t : Fin cfg0.N) (d) :
    (dats m 0 c).before 4 t d = (cfg0.win 4).fill (cfg0.grid.coords t) d (iblk m c 4 t) := by
  unfold Dat.before; rw [if_pos (fetch0_4 t)]; unfold Dat.fetched Dat.blockOf iblk; rw [A_eq]; try rfl

/-- What the body leaves of a cut input, on the part inside the array: its block. -/
theorem cut1 (c : Dev nD) (t : Fin cfg0.N) :
    (cfg0.win 1).cut (cfg0.grid.coords t) ((dats m 0 c).after 1 t) = iblk m c 1 t := by
  rw [show (dats m 0 c).after 1 t = filled m c 1 (0#8) t from by dsimp only [dats]]; exact (cfg0.win 1).cut_fill _ _ _
theorem cut2 (c : Dev nD) (t : Fin cfg0.N) :
    (cfg0.win 2).cut (cfg0.grid.coords t) ((dats m 0 c).after 2 t) = iblk m c 2 t := by
  rw [show (dats m 0 c).after 2 t = filled m c 2 (Scalar.ofBits .bf16 0#16) t from by dsimp only [dats]]
  exact (cfg0.win 2).cut_fill _ _ _
theorem cut3 (c : Dev nD) (t : Fin cfg0.N) :
    (cfg0.win 3).cut (cfg0.grid.coords t) ((dats m 0 c).after 3 t) = iblk m c 3 t := by
  rw [show (dats m 0 c).after 3 t = filled m c 3 (Scalar.ofBits .bf16 0#16) t from by dsimp only [dats]]
  exact (cfg0.win 3).cut_fill _ _ _
theorem cut4 (c : Dev nD) (t : Fin cfg0.N) :
    (cfg0.win 4).cut (cfg0.grid.coords t) ((dats m 0 c).after 4 t) = iblk m c 4 t := by
  rw [show (dats m 0 c).after 4 t = filled m c 4 (0#8) t from by dsimp only [dats]]; exact (cfg0.win 4).cut_fill _ _ _

/-! ## The body obligation -/

/-- The body table's row at point `t` is the body on the current buffers. -/
theorem defs₀_row (t : Fin cfg0.N) :
    defs₀ (F := F) .tc cfg0.body (cfg0.bodyArgs t (cfg0.slots t)) = bodyAt0 t := by
  unfold defs₀; rw [Defs.onTc_tc]

/-- At every point the body, called on the current buffers, gives them back as the data says. -/
theorem body_obligation (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5, H6⟩
  rw [before0 m c t d0, before1 m c t d1, before2 m c t d2, before3 m c t d3, before4 m c t d4]
  unfold bodyAt0
  iapply (sound_kernel c Set.univ (grid0.coords t) _ _ _ _ _ _ _ _ _ _ _ _ _ _ (iblk m c 0 t)
    ((cfg0.win 1).fill (cfg0.grid.coords t) d1 (iblk m c 1 t)) ((cfg0.win 2).fill (cfg0.grid.coords t) d2 (iblk m c 2 t))
    ((cfg0.win 3).fill (cfg0.grid.coords t) d3 (iblk m c 3 t)) ((cfg0.win 4).fill (cfg0.grid.coords t) d4 (iblk m c 4 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · rw [after0]; iexact H0
  isplitl [H1]
  · iexists d1
    change _ ⊢ owns (c : Thread nD τ) (st0_1 t) fullShare
      ((cfg0.win 1).fill (cfg0.grid.coords t) d1 ((cfg0.win 1).cut (cfg0.grid.coords t) ((dats m 0 c).after 1 t)))
    rw [cut1]; try iexact H1
  isplitl [H2]
  · iexists d2
    change _ ⊢ owns (c : Thread nD τ) (st0_2 t) fullShare
      ((cfg0.win 2).fill (cfg0.grid.coords t) d2 ((cfg0.win 2).cut (cfg0.grid.coords t) ((dats m 0 c).after 2 t)))
    rw [cut2]; try iexact H2
  isplitl [H3]
  · iexists d3
    change _ ⊢ owns (c : Thread nD τ) (st0_3 t) fullShare
      ((cfg0.win 3).fill (cfg0.grid.coords t) d3 ((cfg0.win 3).cut (cfg0.grid.coords t) ((dats m 0 c).after 3 t)))
    rw [cut3]; try iexact H3
  isplitl [H4]
  · iexists d4
    change _ ⊢ owns (c : Thread nD τ) (st0_4 t) fullShare
      ((cfg0.win 4).fill (cfg0.grid.coords t) d4 ((cfg0.win 4).cut (cfg0.grid.coords t) ((dats m 0 c).after 4 t)))
    rw [cut4]; try iexact H4
  isplitl [H5]; · iexact H5
  iexact H6

/-! ## The run -/

/-- The buffers the host lines after the kernel write. -/
def tailWrites : Finset (Ref sig .tc) := {main_v4, main_v5, main_v6, main_v7}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl | rfl
  all_goals
    simp only [StableHlo.nullary_writes, StableHlo.unary_writes, StableHlo.binary_writes, StableHlo.ternary_writes,
      StableHlo.quaternary_writes, StableHlo.reshape_writes, StableHlo.binaryIndexed_writes, Finset.mem_singleton] at hb
    have hb' := Proc.devRef_injective _ hb
    subst hb'
    decide

set_option backward.isDefEq.respectTransparency.types false in
set_option maxHeartbeats 800000 in
/-- Every execution of the program ends with the four arguments as they began and every semaphore counter at
    zero. -/
theorem quiescent : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget (Q' := _) cfgs (dats m) (0 : Fin 1) launch0 defs₀ Variants.none fgt tailWrites m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes)
    (hmain := hmain m Variants.none) (hA := A_eq m) (hΦ := fun _ _ => rfl)
    (hQ' := fun r h => ⟨fun c =>
      ⟨((h.1 c).2 main_arg0 (Finset.mem_sdiff.mpr ⟨Pipeline.mem_restRefs_of main_arg0 (by decide) (by decide), by decide⟩)).trans
          (V_main_arg0 m c),
        (((dats m 0 c).toRForget_arrAt_iff (fgt := fgt) (w := 1) rfl _ _).mp ((h.1 c).1 1)).trans
          (((dats m 0 c).arrAt_in 1 rfl _).trans ((A_eq m c 1).trans (V_main_arg1 m c))),
        ((h.1 c).2 main_arg2 (Finset.mem_sdiff.mpr ⟨Pipeline.mem_restRefs_of main_arg2 (by decide) (by decide), by decide⟩)).trans
          (V_main_arg2 m c),
        (((dats m 0 c).toRForget_arrAt_iff (fgt := fgt) (w := 4) rfl _ _).mp ((h.1 c).1 4)).trans
          (((dats m 0 c).arrAt_in 4 rfl _).trans ((A_eq m c 4).trans (V_main_arg3 m c)))⟩, h.2⟩)

end Cert.Kernel.Hand

end
-- ==== Proof.KernelIdealBody.lean ====
/-
  The kernel body of the idealized program: what it computes on its staging buffers, written as a recursion
  over the 41 steps of the contraction (`accum`), and the triple that says the body leaves exactly that
  (`sound_kernel`). Everything here holds for any contents of the buffers and any meaning of the floats.
-/
module

public import proofs.«01_k».proof.Proof.Gen.KernelIdeal.Skeleton
public import proofs.«01_k».proof.Proof.Gen.KernelIdeal.Frame
public import Idealize.ShloMosaic.Lib.Claim
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## What the body computes, step by step -/

/-- The `k`-th block of 256 columns of the activations. -/
abbrev rx (k : Fin 41) : Rect S128x10496 :=
  Rect.unit (s := S128x10496) ![0, 256 * k.val] S128x256.size
    (by intro a; have := k.isLt; fin_cases a <;> simp <;> omega)
/-- The 128 rows of packed codes of the quantization group `g`. -/
abbrev rw (g : Fin 82) : Rect S10496x256 :=
  Rect.unit (s := S10496x256) ![128 * g.val, 0] S128x256.size
    (by intro a; have := g.isLt; fin_cases a <;> simp <;> omega)
/-- The row of scales, or of packed zero points, of the quantization group `g`. -/
abbrev rz (g : Fin 82) : Rect S82x256 :=
  Rect.unit (s := S82x256) ![g.val, 0] S1x256.size
    (by intro a; have := g.isLt; fin_cases a <;> simp <;> omega)

/-- The dequantized weights of the low nibbles of one group: `(code − zero) · scale` on its 128 rows. -/
def wEven (p : Vec F S128x256 .i8) (z : Vec F S1x256 .i8) (s : Vec F S1x256 .bf16) : FVec F S128x256 .bf16 :=
  mulf (subf (uitofp .bf16 (andi p (broadcast S128x256 15#8)))
      (broadcastTo S128x256 (truncf .bf16 (sitofp .f32 (andi (extui 32 z natLt_8_32) (broadcast S1x256 15#32)))
        bitsLt_bf16_f32) broadcasts_S1x256_S128x256))
    (broadcastTo S128x256 (shapeCast S1x256 s shapeCasts_S1x256_S1x256) broadcasts_S1x256_S128x256)
/-- The same for the high nibbles. -/
def wOdd (p : Vec F S128x256 .i8) (z : Vec F S1x256 .i8) (s : Vec F S1x256 .bf16) : FVec F S128x256 .bf16 :=
  mulf (subf (uitofp .bf16 (trunci 8 (shrsi (extui 32 p natLt_8_32) (broadcast S128x256 4#32)) natLt_8_32))
      (broadcastTo S128x256 (truncf .bf16 (sitofp .f32 (shrsi (extui 32 z natLt_8_32) (broadcast S1x256 4#32)))
        bitsLt_bf16_f32) broadcasts_S1x256_S128x256))
    (broadcastTo S128x256 (shapeCast S1x256 s shapeCasts_S1x256_S1x256) broadcasts_S1x256_S128x256)

/-- One step of the body's loop over the contraction: a block of 256 columns of the activations against the
    weights `w0`, `w1` of two groups stacked, added to the accumulator. -/
def step (acc : FVec F S128x256 .f32) (x : Vec F S128x256 .bf16) (w0 w1 : FVec F S128x256 .bf16) :
    FVec F S128x256 .f32 :=
  addf acc (matmul dot_S128x256_S256x256_S128x256_1_0_0_1_n_n none
    (shapeCast S128x256 x shapeCasts_S128x256_S128x256)
    (concatenate S256x256 0 [⟨S128x256, w0⟩, ⟨S128x256, w1⟩] concatenates_S128x256_S128x256_S256x256_d0)
    (constant S128x256 .f32 0x00000000#32))

/-- The first group of step `n`, and the second. -/
abbrev g0 (n : ℕ) (h : n + 1 ≤ 41) : Fin 82 := ⟨2 * n, by omega⟩
abbrev g1 (n : ℕ) (h : n + 1 ≤ 41) : Fin 82 := ⟨2 * n + 1, by omega⟩

/-- The accumulator after `n` steps, for weights given group by group. -/
def accum (x0 : Vec F S128x10496 .bf16) (w : Fin 82 → FVec F S128x256 .bf16) :
    (n : ℕ) → n ≤ 41 → FVec F S128x256 .f32
  | 0, _ => broadcast S128x256 (Scalar.ofBits .f32 0x00000000#32)
  | n + 1, h => step (accum x0 w n (by omega)) (View.ld x0 (rx ⟨n, h⟩)) (w (g0 n h)) (w (g1 n h))

/-- What the body leaves in the first output's buffer: the low-nibble columns of the result. -/
def outEven (x0 : Vec F S128x10496 .bf16) (x1 : Vec F S10496x256 .i8) (x2 : Vec F S82x256 .bf16)
    (x4 : Vec F S82x256 .i8) : FVec F S128x256 .bf16 :=
  truncf .bf16 (accum x0 (fun g => wEven (View.ld x1 (rw g)) (View.ld x4 (rz g)) (View.ld x2 (rz g))) 41 le_rfl)
    bitsLt_bf16_f32
/-- What it leaves in the second output's buffer: the high-nibble columns. -/
def outOdd (x0 : Vec F S128x10496 .bf16) (x1 : Vec F S10496x256 .i8) (x3 : Vec F S82x256 .bf16)
    (x4 : Vec F S82x256 .i8) : FVec F S128x256 .bf16 :=
  truncf .bf16 (accum x0 (fun g => wOdd (View.ld x1 (rw g)) (View.ld x4 (rz g)) (View.ld x3 (rz g))) 41 le_rfl)
    bitsLt_bf16_f32

/-- The one store into an output buffer, through the whole buffer. -/
abbrev rOut : Rect S128x256 :=
  Rect.unit (s := S128x256) ![0, 0] S128x256.size inb_S128x256_S128x256_0_0

/-- That store covers the buffer. -/
theorem coverOut (p : Vec F S128x256 .bf16) (y : S128x256.Idx) :
    ∃ pc ∈ ([⟨rOut, p⟩] : List (View.Piece (Elt F) S128x256 .bf16)), y ∈ pc.1.set :=
  View.cover_of_tiled [⟨rOut, p⟩] S128x256.size (by rfl) y

/-- So the buffer ends at what was stored. -/
theorem canonOut (p : Vec F S128x256 .bf16) :
    View.canon ([⟨rOut, p⟩] : List (View.Piece (Elt F) S128x256 .bf16)) = p :=
  View.canon_unit_zero (S := S128x256) (funext fun a => by fin_cases a <;> rfl) _ _

/-! ## The body's triple -/

set_option maxHeartbeats 8000000 in
/-- The kernel body on whole staging buffers: inputs at `x0` … `x4`, outputs at anything. It runs to the
    continuation holding the inputs as they were and the outputs at `outEven` and `outOdd` of them. -/
theorem sound_kernel (c : Dev nD) (E : Set ℕ) (i : grid0.Coords)
    (arg1 : Memref sig .tc .vmem S128x10496 .bf16) (harg1 : arg1.IsWhole)
    (arg2 : Memref sig .tc .vmem S10496x256 .i8) (harg2 : arg2.IsWhole)
    (arg3 : Memref sig .tc .vmem S82x256 .bf16) (harg3 : arg3.IsWhole)
    (arg4 : Memref sig .tc .vmem S82x256 .bf16) (harg4 : arg4.IsWhole)
    (arg5 : Memref sig .tc .vmem S82x256 .i8) (harg5 : arg5.IsWhole)
    (arg6 : Memref sig .tc .vmem S128x256 .bf16) (harg6 : arg6.IsWhole)
    (arg7 : Memref sig .tc .vmem S128x256 .bf16) (harg7 : arg7.IsWhole)
    (x0 : Vec F S128x10496 .bf16) (x1 : Vec F S10496x256 .i8) (x2 : Vec F S82x256 .bf16)
    (x3 : Vec F S82x256 .bf16) (x4 : Vec F S82x256 .i8) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
            ∗ owns (c : Thread nD τ) arg6 fullShare (outEven x0 x1 x2 x4)
            ∗ owns (c : Thread nD τ) arg7 fullShare (outOdd x0 x1 x3 x4)) -∗ K ⟨⟩))
      ⊢ wp frame (wpE (defs₀ (F := F)) Variants.none c none) E
          (cc0_awq_linear i arg1 harg1 arg2 harg2 arg3 harg3 arg4 harg4 arg5 harg5 arg6 harg6 arg7 harg7) K := by
  simp only [cc0_awq_linear_eq_skeleton]; unfold cc0_awq_linear_skel
  simp only [ k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton,
    k0_part30_eq_skeleton, k0_part31_eq_skeleton, k0_part32_eq_skeleton, k0_part33_eq_skeleton,
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part43_eq_skeleton, k0_part44_eq_skeleton, k0_part45_eq_skeleton,
    k0_part46_eq_skeleton, k0_part47_eq_skeleton, k0_part48_eq_skeleton, k0_part49_eq_skeleton,
    k0_part50_eq_skeleton, k0_part51_eq_skeleton, k0_part52_eq_skeleton, k0_part53_eq_skeleton,
    k0_part54_eq_skeleton, k0_part55_eq_skeleton, k0_part56_eq_skeleton, k0_part57_eq_skeleton,
    k0_part58_eq_skeleton, k0_part59_eq_skeleton, k0_part60_eq_skeleton, k0_part61_eq_skeleton,
    k0_part62_eq_skeleton, k0_part63_eq_skeleton, k0_part64_eq_skeleton, k0_part65_eq_skeleton,
    k0_part66_eq_skeleton, k0_part67_eq_skeleton, k0_part68_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverOut _)).trans ((canonOut _).trans ?_)
    rfl
  iexists _; isplitr
  swap; · iexact H6
  ipureintro
  refine (View.read_writes_eq_canon _ _ _ (coverOut _)).trans ((canonOut _).trans ?_)
  rfl

end Cert.KernelIdeal.Hand

end
-- ==== Proof.Nibbles.lean ====
/-
  The two halves of a byte as numbers, and the ways the two programs compute them: by a mask, or by widening the
  byte and shifting it right by four, read signed or unsigned. All give the same number, checked over the 256 bytes.
-/
module

public import Idealize.ShloMosaic.Lib.Pointwise

@[expose] public section

noncomputable section

namespace Cert.Nibbles

open Idealize.ShloMosaic

/-- The low four bits of a byte, as a number. -/
def lo (b : BitVec 8) : EReal := (((b.toNat % 16 : ℕ) : ℝ) : EReal)
/-- The high four bits of a byte, as a number. -/
def hi (b : BitVec 8) : EReal := (((b.toNat / 16 : ℕ) : ℝ) : EReal)

/-- A mask on the byte, read unsigned. -/
theorem uitofp_lo (φ : FTy) (b : BitVec 8) : FloatOps.uitofp (F := Ideal) φ (IntOp.andi b 15#8) = lo b := by
  change ((((IntOp.andi b 15#8).toNat : ℕ) : ℝ) : EReal) = _
  rw [show (IntOp.andi b 15#8).toNat = b.toNat % 16 from
    (by decide +kernel : ∀ b : BitVec 8, (IntOp.andi b 15#8).toNat = b.toNat % 16) b]
  rfl
/-- A mask on the widened byte, read signed. -/
theorem sitofp_lo (φ : FTy) (b : BitVec 8) :
    FloatOps.sitofp (F := Ideal) φ (IntOp.andi (BitVec.setWidth 32 b) 15#32) = lo b := by
  change ((((IntOp.andi (BitVec.setWidth 32 b) 15#32).toInt : ℤ) : ℝ) : EReal) = _
  rw [show (IntOp.andi (BitVec.setWidth 32 b) 15#32).toInt = ((b.toNat % 16 : ℕ) : ℤ) from
    (by decide +kernel : ∀ b : BitVec 8, (IntOp.andi (BitVec.setWidth 32 b) 15#32).toInt = ((b.toNat % 16 : ℕ) : ℤ)) b,
    Int.cast_natCast]
  rfl
/-- The widened byte shifted right by four, narrowed back and read unsigned. -/
theorem uitofp_hi (φ : FTy) (u : ArithUnit) (b : BitVec 8) :
    FloatOps.uitofp (F := Ideal) φ (BitVec.setWidth 8 (IntOp.shrsi u (BitVec.setWidth 32 b) 4#32)) = hi b := by
  change ((((BitVec.setWidth 8 (IntOp.shrsi u (BitVec.setWidth 32 b) 4#32)).toNat : ℕ) : ℝ) : EReal) = _
  have e : IntOp.shrsi u (BitVec.setWidth 32 b) 4#32 = (BitVec.setWidth 32 b).sshiftRight' 4#32 := if_pos (by decide)
  rw [e, show (BitVec.setWidth 8 ((BitVec.setWidth 32 b).sshiftRight' 4#32)).toNat = b.toNat / 16 from
    (by decide +kernel : ∀ b : BitVec 8,
      (BitVec.setWidth 8 ((BitVec.setWidth 32 b).sshiftRight' 4#32)).toNat = b.toNat / 16) b]
  rfl
/-- The widened byte shifted right by four, read signed. -/
theorem sitofp_hi (φ : FTy) (u : ArithUnit) (b : BitVec 8) :
    FloatOps.sitofp (F := Ideal) φ (IntOp.shrsi u (BitVec.setWidth 32 b) 4#32) = hi b := by
  change ((((IntOp.shrsi u (BitVec.setWidth 32 b) 4#32).toInt : ℤ) : ℝ) : EReal) = _
  have e : IntOp.shrsi u (BitVec.setWidth 32 b) 4#32 = (BitVec.setWidth 32 b).sshiftRight' 4#32 := if_pos (by decide)
  rw [e, show ((BitVec.setWidth 32 b).sshiftRight' 4#32).toInt = ((b.toNat / 16 : ℕ) : ℤ) from
    (by decide +kernel : ∀ b : BitVec 8,
      ((BitVec.setWidth 32 b).sshiftRight' 4#32).toInt = ((b.toNat / 16 : ℕ) : ℤ)) b,
    Int.cast_natCast]
  rfl

/-- The quantization group of a contracted position. -/
abbrev grp (k : Fin 10496) : Fin 82 := ⟨k.val / 128, by omega⟩

end Cert.Nibbles

end
-- ==== Proof.KernelIdealValue.lean ====
/-
  The idealized body read entry by entry. Over the extended reals every rounding is the identity, so an entry of
  either output is one sum over the 10496 contracted positions: an activation times a dequantized weight, where
  a weight is `(code − zero) · scale` with `code` and `zero` the low (or high) four bits of a byte.

  The two halves are treated at once: `accum_at` sums the loop for any weights, and the two outputs are its
  instances at the low-nibble and the high-nibble weights.
-/
module

public import proofs.«01_k».proof.Proof.KernelIdealBody
public import proofs.«01_k».proof.Proof.Nibbles
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen Cert.Nibbles

/-! ## One group's weights, one step -/

theorem wEven_at (p : Vec Ideal S128x256 .i8) (z : Vec Ideal S1x256 .i8) (s : FVec Ideal S1x256 .bf16)
    (r : Fin 128) (j : Fin 256) :
    wEven (F := Ideal) p z s (ix2 r j) = (lo (p (ix2 r j)) - lo (z (ix2 0 j))) * s (ix2 0 j) := by
  pointwise [wEven]
  rw [uitofp_lo, sitofp_lo]

theorem wOdd_at (p : Vec Ideal S128x256 .i8) (z : Vec Ideal S1x256 .i8) (s : FVec Ideal S1x256 .bf16)
    (r : Fin 128) (j : Fin 256) :
    wOdd (F := Ideal) p z s (ix2 r j) = (hi (p (ix2 r j)) - hi (z (ix2 0 j))) * s (ix2 0 j) := by
  pointwise [wOdd]
  rw [uitofp_hi, sitofp_hi]

/-- A step adds the two groups' products. -/
theorem step_at (acc : FVec Ideal S128x256 .f32) (x w0 w1 : FVec Ideal S128x256 .bf16) (i : Fin 128) (j : Fin 256) :
    step (F := Ideal) acc x w0 w1 (ix2 i j) = acc (ix2 i j)
      + (∑ r : Fin 128, x (ix2 i ⟨r.val, by omega⟩) * w0 (ix2 r j)
        + ∑ r : Fin 128, x (ix2 i ⟨128 + r.val, by omega⟩) * w1 (ix2 r j)) := by
  pointwise [step]

/-! ## Blocks of the staged inputs -/

theorem ld_rx (x0 : Vec Ideal S128x10496 .bf16) (n : Fin 41) (i : Fin 128) (q : Fin 256) :
    (show Vec Ideal S128x256 .bf16 from View.ld x0 (rx n)) (ix2 i q) = x0 (ix2 i ⟨256 * n.val + q.val, by omega⟩) := by
  pointwise [rx]
theorem ld_rw (x1 : Vec Ideal S10496x256 .i8) (g : Fin 82) (r : Fin 128) (j : Fin 256) :
    (show Vec Ideal S128x256 .i8 from View.ld x1 (rw g)) (ix2 r j) = x1 (ix2 ⟨128 * g.val + r.val, by omega⟩ j) := by
  pointwise [rw]
theorem ld_rz (x2 : Vec Ideal S82x256 .bf16) (g : Fin 82) (j : Fin 256) :
    (show Vec Ideal S1x256 .bf16 from View.ld x2 (rz g)) (ix2 0 j) = x2 (ix2 g j) := by
  pointwise [rz]
theorem ld_rz8 (x4 : Vec Ideal S82x256 .i8) (g : Fin 82) (j : Fin 256) :
    (show Vec Ideal S1x256 .i8 from View.ld x4 (rz g)) (ix2 0 j) = x4 (ix2 g j) := by
  pointwise [rz]

/-! ## The loop -/

/-- The accumulator after `n` steps is the sum of the first `256 · n` products, whatever the weights: `term k` is
    the product at the contracted position `k`. -/
theorem accum_at (x0 : FVec Ideal S128x10496 .bf16) (w : Fin 82 → FVec Ideal S128x256 .bf16) (i : Fin 128) (j : Fin 256)
    (term : ℕ → EReal)
    (hterm : ∀ (g : Fin 82) (r : Fin 128), x0 (ix2 i ⟨128 * g.val + r.val, by omega⟩) * w g (ix2 r j)
      = term (128 * g.val + r.val)) :
    ∀ (n : ℕ) (hn : n ≤ 41), accum (F := Ideal) x0 w n hn (ix2 i j) = ∑ k ∈ Finset.range (256 * n), term k
  | 0, _ => by
    rw [show accum (F := Ideal) x0 w 0 (by omega) = broadcast S128x256 (Scalar.ofBits .f32 0x00000000#32) from rfl]
    pointwise
    simp
  | n + 1, hn => by
    rw [show accum (F := Ideal) x0 w (n + 1) hn
        = step (accum x0 w n (by omega)) (View.ld x0 (rx ⟨n, hn⟩)) (w (g0 n hn)) (w (g1 n hn)) from rfl, step_at,
      accum_at x0 w i j term hterm n (by omega),
      show 256 * (n + 1) = 256 * n + (128 + 128) by ring, Finset.sum_range_add, Finset.sum_range_add,
      ← Fin.sum_univ_eq_sum_range (fun r => term (256 * n + r)) 128,
      ← Fin.sum_univ_eq_sum_range (fun r => term (256 * n + (128 + r))) 128]
    congr 2
    · refine Finset.sum_congr rfl fun r _ => ?_
      refine (congrArg (· * _) (ld_rx x0 ⟨n, hn⟩ i ⟨r.val, by omega⟩)).trans ?_
      refine Eq.trans ?_ ((hterm (g0 n hn) r).trans (congrArg term (by dsimp only; omega)))
      refine congrArg (· * _) (congrArg x0 (congrArg (ix2 i) (Fin.ext ?_)))
      dsimp only; omega
    · refine Finset.sum_congr rfl fun r _ => ?_
      refine (congrArg (· * _) (ld_rx x0 ⟨n, hn⟩ i ⟨128 + r.val, by omega⟩)).trans ?_
      refine Eq.trans ?_ ((hterm (g1 n hn) r).trans (congrArg term (by dsimp only; omega)))
      refine congrArg (· * _) (congrArg x0 (congrArg (ix2 i) (Fin.ext ?_)))
      dsimp only; omega

/-- The loop from end to end, for weights given at every contracted position by `wt`. -/
theorem accum_all (x0 : FVec Ideal S128x10496 .bf16) (w : Fin 82 → FVec Ideal S128x256 .bf16) (i : Fin 128) (j : Fin 256)
    (wt : Fin 10496 → EReal) (hw : ∀ (g : Fin 82) (r : Fin 128), w g (ix2 r j) = wt ⟨128 * g.val + r.val, by omega⟩) :
    accum (F := Ideal) x0 w 41 le_rfl (ix2 i j) = ∑ k : Fin 10496, x0 (ix2 i k) * wt k := by
  rw [accum_at x0 w i j (fun k => if h : k < 10496 then x0 (ix2 i ⟨k, h⟩) * wt ⟨k, h⟩ else 0)
    (fun g r => by rw [dif_pos (by omega), hw]) 41 le_rfl, show 256 * 41 = 10496 from rfl,
    ← Fin.sum_univ_eq_sum_range (fun k => if h : k < 10496 then x0 (ix2 i ⟨k, h⟩) * wt ⟨k, h⟩ else 0) 10496]
  exact Finset.sum_congr rfl fun k _ => dif_pos k.isLt

/-- The group of row `r` of group `g` is `g`. -/
theorem grp_row (g : Fin 82) (r : Fin 128) : grp ⟨128 * g.val + r.val, by omega⟩ = g := Fin.ext (by
  change (128 * g.val + r.val) / 128 = g.val; omega)

/-- An entry of the first output's buffer. -/
theorem outEven_at (x0 : FVec Ideal S128x10496 .bf16) (x1 : Vec Ideal S10496x256 .i8) (x2 : FVec Ideal S82x256 .bf16)
    (x4 : Vec Ideal S82x256 .i8) (i : Fin 128) (j : Fin 256) :
    outEven (F := Ideal) x0 x1 x2 x4 (ix2 i j)
      = ∑ k : Fin 10496, x0 (ix2 i k) * ((lo (x1 (ix2 k j)) - lo (x4 (ix2 (grp k) j))) * x2 (ix2 (grp k) j)) := by
  refine accum_all x0 _ i j (fun k => (lo (x1 (ix2 k j)) - lo (x4 (ix2 (grp k) j))) * x2 (ix2 (grp k) j)) fun g r => ?_
  refine (wEven_at _ _ _ r j).trans ?_
  rw [grp_row]
  exact congrArg₂ (· * ·) (congrArg₂ (fun a b => lo a - lo b) (ld_rw x1 g r j) (ld_rz8 x4 g j)) (ld_rz x2 g j)

/-- An entry of the second output's buffer. -/
theorem outOdd_at (x0 : FVec Ideal S128x10496 .bf16) (x1 : Vec Ideal S10496x256 .i8) (x3 : FVec Ideal S82x256 .bf16)
    (x4 : Vec Ideal S82x256 .i8) (i : Fin 128) (j : Fin 256) :
    outOdd (F := Ideal) x0 x1 x3 x4 (ix2 i j)
      = ∑ k : Fin 10496, x0 (ix2 i k) * ((hi (x1 (ix2 k j)) - hi (x4 (ix2 (grp k) j))) * x3 (ix2 (grp k) j)) := by
  refine accum_all x0 _ i j (fun k => (hi (x1 (ix2 k j)) - hi (x4 (ix2 (grp k) j))) * x3 (ix2 (grp k) j)) fun g r => ?_
  refine (wOdd_at _ _ _ r j).trans ?_
  rw [grp_row]
  exact congrArg₂ (· * ·) (congrArg₂ (fun a b => hi a - hi b) (ld_rw x1 g r j) (ld_rz8 x4 g j)) (ld_rz x3 g j)

end Cert.KernelIdeal.Hand

end
-- ==== Proof.KernelIdealEdge.lean ====
/-
  The blocks of the idealized program, and what the body leaves of the results in each.

  The result has 2752 columns per half and the kernel walks them in blocks of 256, so the last of the eleven
  blocks overhangs the arrays by 64 columns. What lies in a staging buffer beyond the array's edge is a word
  nothing names. It does no harm: a column of an output depends on the same column of the inputs only, and what
  is written back is cut at the array's edge. So of an output's buffer only the part inside the array is
  described, and that part is the block of one formula in the whole arrays (`edge_even`, `edge_odd`).
-/
module

public import proofs.«01_k».proof.Proof.KernelIdealValue
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.Nibbles

local notation "𝕄" => MT nD τ sig Unit (Elt Ideal) ℕ (UR sig nD τ) ℕ

variable (m : (ℓ : Loc nD τ sig) → Buf (Elt Ideal) ℓ)

/-! ## The whole results -/

/-- The product of the activations with the dequantized low-nibble (`nib := lo`) or high-nibble (`nib := hi`)
    weights: codes `q`, zero points `z`, scales `s`. -/
def product (nib : BitVec 8 → EReal) (x : Vec Ideal S128x10496 .bf16) (q : Vec Ideal S10496x2752 .i8)
    (s : Vec Ideal S82x2752 .bf16) (z : Vec Ideal S82x2752 .i8) : Vec Ideal S128x2752 .bf16 := fun p =>
  show EReal from ∑ k : Fin 10496, (show EReal from x (ix2 (p 0) k))
    * ((nib (q (ix2 k (p 1))) - nib (z (ix2 (grp k) (p 1)))) * (show EReal from s (ix2 (grp k) (p 1))))

/-! ## Where the blocks lie -/

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] :=
  (by decide +kernel : ∀ t : Fin grid0.N, _)

/-- The part of a block inside the array: every row, and the columns before column 2752 of the array. -/
theorem xsz1 : ∀ t : Fin cfg0.N, ∀ a, win0_1.xsize (grid0.coords t) a = (![10496, min 256 (2752 - 256 * t.val)] : Fin 2 → ℕ) a :=
  (by decide +kernel : ∀ t : Fin grid0.N, _)
theorem xsz2 : ∀ t : Fin cfg0.N, ∀ a, win0_2.xsize (grid0.coords t) a = (![82, min 256 (2752 - 256 * t.val)] : Fin 2 → ℕ) a :=
  (by decide +kernel : ∀ t : Fin grid0.N, _)
theorem xsz3 : ∀ t : Fin cfg0.N, ∀ a, win0_3.xsize (grid0.coords t) a = (![82, min 256 (2752 - 256 * t.val)] : Fin 2 → ℕ) a :=
  (by decide +kernel : ∀ t : Fin grid0.N, _)
theorem xsz4 : ∀ t : Fin cfg0.N, ∀ a, win0_4.xsize (grid0.coords t) a = (![82, min 256 (2752 - 256 * t.val)] : Fin 2 → ℕ) a :=
  (by decide +kernel : ∀ t : Fin grid0.N, _)
theorem xsz5 : ∀ t : Fin cfg0.N, ∀ a, win0_5.xsize (grid0.coords t) a = (![128, min 256 (2752 - 256 * t.val)] : Fin 2 → ℕ) a :=
  (by decide +kernel : ∀ t : Fin grid0.N, _)
theorem xsz6 : ∀ t : Fin cfg0.N, ∀ a, win0_6.xsize (grid0.coords t) a = (![128, min 256 (2752 - 256 * t.val)] : Fin 2 → ℕ) a :=
  (by decide +kernel : ∀ t : Fin grid0.N, _)

/-! ## A staged input at an index inside the array -/

theorem iblk0_at (c : Dev nD) (t : Fin cfg0.N) (i : Fin 128) (k : Fin 10496) :
    iblk m c 0 t (ix2 i k) = V m c main_v2 (ix2 i k) := by
  blk_ext [iblk, idx t]

theorem fill1_at (c : Dev nD) (t : Fin cfg0.N) (d) (k : Fin 10496) (j : Fin 256) (h : 256 * t.val + j.val < 2752) :
    (cfg0.win 1).fill (cfg0.grid.coords t) d (iblk m c 1 t) (ix2 k j)
      = V m c main_arg1 (ix2 k ⟨256 * t.val + j.val, h⟩) := by
  have hm : (cfg0.win 1).moved (cfg0.grid.coords t) (ix2 k j) = true := by
    refine ((cfg0.win 1).moved_iff _ _).mpr fun a => lt_of_lt_of_eq ?_ (xsz1 t a).symm
    fin_cases a
    · exact k.isLt
    · exact lt_min j.isLt (show j.val < 2752 - 256 * t.val by omega)
  unfold Window.fill
  rw [dif_pos hm]
  blk_ext [iblk, idx t]

theorem fill2_at (c : Dev nD) (t : Fin cfg0.N) (d) (g : Fin 82) (j : Fin 256) (h : 256 * t.val + j.val < 2752) :
    (cfg0.win 2).fill (cfg0.grid.coords t) d (iblk m c 2 t) (ix2 g j)
      = V m c main_v0 (ix2 g ⟨256 * t.val + j.val, h⟩) := by
  have hm : (cfg0.win 2).moved (cfg0.grid.coords t) (ix2 g j) = true := by
    refine ((cfg0.win 2).moved_iff _ _).mpr fun a => lt_of_lt_of_eq ?_ (xsz2 t a).symm
    fin_cases a
    · exact g.isLt
    · exact lt_min j.isLt (show j.val < 2752 - 256 * t.val by omega)
  unfold Window.fill
  rw [dif_pos hm]
  blk_ext [iblk, idx t]

theorem fill3_at (c : Dev nD) (t : Fin cfg0.N) (d) (g : Fin 82) (j : Fin 256) (h : 256 * t.val + j.val < 2752) :
    (cfg0.win 3).fill (cfg0.grid.coords t) d (iblk m c 3 t) (ix2 g j)
      = V m c main_v1 (ix2 g ⟨256 * t.val + j.val, h⟩) := by
  have hm : (cfg0.win 3).moved (cfg0.grid.coords t) (ix2 g j) = true := by
    refine ((cfg0.win 3).moved_iff _ _).mpr fun a => lt_of_lt_of_eq ?_ (xsz3 t a).symm
    fin_cases a
    · exact g.isLt
    · exact lt_min j.isLt (show j.val < 2752 - 256 * t.val by omega)
  unfold Window.fill
  rw [dif_pos hm]
  blk_ext [iblk, idx t]

theorem fill4_at (c : Dev nD) (t : Fin cfg0.N) (d) (g : Fin 82) (j : Fin 256) (h : 256 * t.val + j.val < 2752) :
    (cfg0.win 4).fill (cfg0.grid.coords t) d (iblk m c 4 t) (ix2 g j)
      = V m c main_arg3 (ix2 g ⟨256 * t.val + j.val, h⟩) := by
  have hm : (cfg0.win 4).moved (cfg0.grid.coords t) (ix2 g j) = true := by
    refine ((cfg0.win 4).moved_iff _ _).mpr fun a => lt_of_lt_of_eq ?_ (xsz4 t a).symm
    fin_cases a
    · exact g.isLt
    · exact lt_min j.isLt (show j.val < 2752 - 256 * t.val by omega)
  unfold Window.fill
  rw [dif_pos hm]
  blk_ext [iblk, idx t]

/-! ## The outputs' blocks -/

theorem product_at (nib : BitVec 8 → EReal) (x : FVec Ideal S128x10496 .bf16) (q : Vec Ideal S10496x2752 .i8)
    (s : FVec Ideal S82x2752 .bf16) (z : Vec Ideal S82x2752 .i8) (i : Fin 128) (j : Fin 2752) :
    product nib x q s z (ix2 i j)
      = ∑ k : Fin 10496, x (ix2 i k) * ((nib (q (ix2 k j)) - nib (z (ix2 (grp k) j))) * s (ix2 (grp k) j)) := rfl

theorem sum_eq {f g : Fin 10496 → EReal} (h : ∀ k, f k = g k) : ∑ k, f k = ∑ k, g k :=
  Finset.sum_congr rfl fun k _ => h k

/-- The whole low-nibble result, and the whole high-nibble result, of the memory `m`. -/
def evens (c : Dev nD) : Vec Ideal S128x2752 .bf16 :=
  product lo (V m c main_v2) (V m c main_arg1) (V m c main_v0) (V m c main_arg3)
def odds (c : Dev nD) : Vec Ideal S128x2752 .bf16 :=
  product hi (V m c main_v2) (V m c main_arg1) (V m c main_v1) (V m c main_arg3)

/-- Point `t`'s block of each, as much of it as lies inside the array. -/
def evensBlk (c : Dev nD) (t : Fin cfg0.N) : ((cfg0.win 5).xblock (cfg0.grid.coords t)).Idx → Elt Ideal (cfg0.win 5).elt :=
  ((cfg0.win 5).blk t).view.read (Elt Ideal) (evens m c)
def oddsBlk (c : Dev nD) (t : Fin cfg0.N) : ((cfg0.win 6).xblock (cfg0.grid.coords t)).Idx → Elt Ideal (cfg0.win 6).elt :=
  ((cfg0.win 6).blk t).view.read (Elt Ideal) (odds m c)

/-- Whatever lies past the arrays' edge in the inputs' buffers (`d1`, `d2`, `d4`), the body leaves in the output's
    buffer, as far as the array reaches, the block of `evens`. -/
theorem edge_even (c : Dev nD) (t : Fin cfg0.N) (d1 d2 d4) :
    (cfg0.win 5).cut (cfg0.grid.coords t) (outEven (F := Ideal) (iblk m c 0 t)
      ((cfg0.win 1).fill (cfg0.grid.coords t) d1 (iblk m c 1 t)) ((cfg0.win 2).fill (cfg0.grid.coords t) d2 (iblk m c 2 t))
      ((cfg0.win 4).fill (cfg0.grid.coords t) d4 (iblk m c 4 t))) = evensBlk m c t := by
  funext y
  have h0 : (y 0).val < 128 := lt_of_lt_of_eq (y 0).isLt (xsz5 t 0)
  have hj : (y 1).val < min 256 (2752 - 256 * t.val) := lt_of_lt_of_eq (y 1).isLt (xsz5 t 1)
  have hj' : (y 1).val < 256 := lt_of_lt_of_le hj (min_le_left _ _)
  have hJ : 256 * t.val + (y 1).val < 2752 := by have := lt_of_lt_of_le hj (min_le_right _ _); omega
  have hx : (cfg0.win 5).xinj (cfg0.grid.coords t) y = ix2 (⟨(y 0).val, h0⟩ : Fin 128) (⟨(y 1).val, hj'⟩ : Fin 256) := by
    funext a; fin_cases a <;> rfl
  have he : ((cfg0.win 5).blk t).view.emb y
      = ix2 (⟨(y 0).val, h0⟩ : Fin 128) (⟨256 * t.val + (y 1).val, hJ⟩ : Fin 2752) := by
    blk_ext [idx t]
  unfold Window.cut evensBlk
  rw [hx]
  refine (outEven_at _ _ _ _ _ _).trans (Eq.trans ?_ ((congrArg (evens m c) he).trans (product_at _ _ _ _ _ _ _)).symm)
  refine sum_eq fun k => ?_
  refine congrArg₂ (fun a b : EReal => a * b) (iblk0_at m c t _ k) ?_
  exact congrArg₂ (fun a b : EReal => a * b)
    (congrArg₂ (fun a b : BitVec 8 => lo a - lo b) (fill1_at m c t d1 k _ hJ) (fill4_at m c t d4 (grp k) _ hJ))
    (fill2_at m c t d2 (grp k) _ hJ)

/-- Whatever lies past the arrays' edge in the inputs' buffers (`d1`, `d3`, `d4`), the body leaves in the output's
    buffer, as far as the array reaches, the block of `odds`. -/
theorem edge_odd (c : Dev nD) (t : Fin cfg0.N) (d1 d3 d4) :
    (cfg0.win 6).cut (cfg0.grid.coords t) (outOdd (F := Ideal) (iblk m c 0 t)
      ((cfg0.win 1).fill (cfg0.grid.coords t) d1 (iblk m c 1 t)) ((cfg0.win 3).fill (cfg0.grid.coords t) d3 (iblk m c 3 t))
      ((cfg0.win 4).fill (cfg0.grid.coords t) d4 (iblk m c 4 t))) = oddsBlk m c t := by
  funext y
  have h0 : (y 0).val < 128 := lt_of_lt_of_eq (y 0).isLt (xsz6 t 0)
  have hj : (y 1).val < min 256 (2752 - 256 * t.val) := lt_of_lt_of_eq (y 1).isLt (xsz6 t 1)
  have hj' : (y 1).val < 256 := lt_of_lt_of_le hj (min_le_left _ _)
  have hJ : 256 * t.val + (y 1).val < 2752 := by have := lt_of_lt_of_le hj (min_le_right _ _); omega
  have hx : (cfg0.win 6).xinj (cfg0.grid.coords t) y = ix2 (⟨(y 0).val, h0⟩ : Fin 128) (⟨(y 1).val, hj'⟩ : Fin 256) := by
    funext a; fin_cases a <;> rfl
  have he : ((cfg0.win 6).blk t).view.emb y
      = ix2 (⟨(y 0).val, h0⟩ : Fin 128) (⟨256 * t.val + (y 1).val, hJ⟩ : Fin 2752) := by
    blk_ext [idx t]
  unfold Window.cut oddsBlk
  rw [hx]
  refine (outOdd_at _ _ _ _ _ _).trans (Eq.trans ?_ ((congrArg (odds m c) he).trans (product_at _ _ _ _ _ _ _)).symm)
  refine sum_eq fun k => ?_
  refine congrArg₂ (fun a b : EReal => a * b) (iblk0_at m c t _ k) ?_
  exact congrArg₂ (fun a b : EReal => a * b)
    (congrArg₂ (fun a b : BitVec 8 => hi a - hi b) (fill1_at m c t d1 k _ hJ) (fill4_at m c t d4 (grp k) _ hJ))
    (fill3_at m c t d3 (grp k) _ hJ)

end Cert.KernelIdeal.Hand

end
-- ==== Proof.KernelIdealRun.lean ====
/-
  The run of the idealized program over the extended reals, with the exact contents of both outputs: every
  execution ends, the arguments and the counters are as they began, and the two arrays the pipeline writes are
  the two whole products (`final5`, `final6`).
-/
module

public import proofs.«01_k».proof.Proof.KernelIdealEdge

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.Nibbles

local notation "𝕄" => MT nD τ sig Unit (Elt Ideal) ℕ (UR sig nD τ) ℕ

variable (m : (ℓ : Loc nD τ sig) → Buf (Elt Ideal) ℓ) (ρ : Dev nD → PrngReg)

/-! ## The proof data -/

/-- An input's block at a point, filled out with zero words past the array's edge. -/
def filled (c : Dev nD) (w : Fin cfg0.W) (z : Elt Ideal (cfg0.win w).elt) (t : Fin cfg0.N) :
    (cfg0.win w).block.Idx → Elt Ideal (cfg0.win w).elt :=
  (cfg0.win w).fill (cfg0.grid.coords t) (fun _ => z) (iblk m c w t)

/-- The data of the one pipeline: the arrays as the region finds them; after the body each input's buffer at its
    block, each output's at the block of the whole result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => filled m c 1 (0#8) t
    | ⟨2, _⟩ => filled m c 2 (Scalar.ofBits (F := Ideal) .bf16 0#16) t
    | ⟨3, _⟩ => filled m c 3 (Scalar.ofBits (F := Ideal) .bf16 0#16) t
    | ⟨4, _⟩ => filled m c 4 (0#8) t
    | ⟨5, _⟩ => (cfg0.win 5).fill (cfg0.grid.coords t) (fun _ => Scalar.ofBits (F := Ideal) .bf16 0#16) (evensBlk m c t)
    | ⟨6, _⟩ => (cfg0.win 6).fill (cfg0.grid.coords t) (fun _ => Scalar.ofBits (F := Ideal) .bf16 0#16) (oddsBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]

theorem after5 (c : Dev nD) (t : Fin cfg0.N) : (dats m 0 c).after 5 t
    = (cfg0.win 5).fill (cfg0.grid.coords t) (fun _ => Scalar.ofBits (F := Ideal) .bf16 0#16) (evensBlk m c t) := by dsimp only [dats]
theorem after6 (c : Dev nD) (t : Fin cfg0.N) : (dats m 0 c).after 6 t
    = (cfg0.win 6).fill (cfg0.grid.coords t) (fun _ => Scalar.ofBits (F := Ideal) .bf16 0#16) (oddsBlk m c t) := by dsimp only [dats]

/-- The activations' buffer holds the whole array at every point. -/
theorem before0 (c : Dev nD) (t : Fin cfg0.N) (d) : (dats m 0 c).before 0 t d = iblk m c 0 t :=
  before0_0_of m (dats m 0 c) (A_eq m c 0) (after0 m c) t d
/-- The other inputs are fetched at every point: the block inside the array, anything past its edge. -/
theorem before1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]; try rfl
theorem before2 (c : Dev nD) (t : Fin cfg0.N) (d) :
    (dats m 0 c).before 2 t d = (cfg0.win 2).fill (cfg0.grid.coords t) d (iblk m c 2 t) := by
  unfold Dat.before; rw [if_pos (fetch0_2 t)]; unfold Dat.fetched Dat.blockOf iblk; rw [A_eq]; try rfl
theorem before3 (c : Dev nD) (t : Fin cfg0.N) (d) :
    (dats m 0 c).before 3 t d = (cfg0.win 3).fill (cfg0.grid.coords t) d (iblk m c 3 t) := by
  unfold Dat.before; rw [if_pos (fetch0_3 t)]; unfold Dat.fetched Dat.blockOf iblk; rw [A_eq]; try rfl
theorem before4 (c : Dev nD) (t : Fin cfg0.N) (d) :
    (dats m 0 c).before 4 t d = (cfg0.win 4).fill (cfg0.grid.coords t) d (iblk m c 4 t) := by
  unfold Dat.before; rw [if_pos (fetch0_4 t)]; unfold Dat.fetched Dat.blockOf iblk; rw [A_eq]; try rfl

/-- What the body leaves of a cut input, on the part inside the array: its block. -/
theorem cut1 (c : Dev nD) (t : Fin cfg0.N) :
    (cfg0.win 1).cut (cfg0.grid.coords t) ((dats m 0 c).after 1 t) = iblk m c 1 t := by
  rw [show (dats m 0 c).after 1 t = filled m c 1 (0#8) t from by dsimp only [dats]]; exact (cfg0.win 1).cut_fill _ _ _
theorem cut2 (c : Dev nD) (t : Fin cfg0.N) :
    (cfg0.win 2).cut (cfg0.grid.coords t) ((dats m 0 c).after 2 t) = iblk m c 2 t := by
  rw [show (dats m 0 c).after 2 t = filled m c 2 (Scalar.ofBits (F := Ideal) .bf16 0#16) t from by dsimp only [dats]]
  exact (cfg0.win 2).cut_fill _ _ _
theorem cut3 (c : Dev nD) (t : Fin cfg0.N) :
    (cfg0.win 3).cut (cfg0.grid.coords t) ((dats m 0 c).after 3 t) = iblk m c 3 t := by
  rw [show (dats m 0 c).after 3 t = filled m c 3 (Scalar.ofBits (F := Ideal) .bf16 0#16) t from by dsimp only [dats]]
  exact (cfg0.win 3).cut_fill _ _ _
theorem cut4 (c : Dev nD) (t : Fin cfg0.N) :
    (cfg0.win 4).cut (cfg0.grid.coords t) ((dats m 0 c).after 4 t) = iblk m c 4 t := by
  rw [show (dats m 0 c).after 4 t = filled m c 4 (0#8) t from by dsimp only [dats]]; exact (cfg0.win 4).cut_fill _ _ _

/-- Of an output, on the part inside the array: the block of the whole result. -/
theorem cut5 (c : Dev nD) (t : Fin cfg0.N) :
    (cfg0.win 5).cut (cfg0.grid.coords t) ((dats m 0 c).after 5 t) = evensBlk m c t := by
  rw [after5]; exact (cfg0.win 5).cut_fill _ _ _
theorem cut6 (c : Dev nD) (t : Fin cfg0.N) :
    (cfg0.win 6).cut (cfg0.grid.coords t) ((dats m 0 c).after 6 t) = oddsBlk m c t := by
  rw [after6]; exact (cfg0.win 6).cut_fill _ _ _

/-! ## The body obligation -/

/-- The body table's row at point `t` is the body on the current buffers. -/
theorem defs₀_row (t : Fin cfg0.N) :
    defs₀ (F := Ideal) .tc cfg0.body (cfg0.bodyArgs t (cfg0.slots t)) = bodyAt0 t := by
  unfold defs₀; rw [Defs.onTc_tc]

/-- At every point the body, called on the current buffers, gives them back as the data says. -/
theorem body_obligation (c : Dev nD) :
    BodyObligationLoose (dats m 0 c) (defs₀ (F := Ideal)) Variants.none () Set.univ := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0 m c t d0, before1 m c t d1, before2 m c t d2, before3 m c t d3, before4 m c t d4]
  unfold bodyAt0
  iapply (sound_kernel c Set.univ (grid0.coords t) _ _ _ _ _ _ _ _ _ _ _ _ _ _ (iblk m c 0 t)
    ((cfg0.win 1).fill (cfg0.grid.coords t) d1 (iblk m c 1 t)) ((cfg0.win 2).fill (cfg0.grid.coords t) d2 (iblk m c 2 t))
    ((cfg0.win 3).fill (cfg0.grid.coords t) d3 (iblk m c 3 t)) ((cfg0.win 4).fill (cfg0.grid.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · rw [after0]; iexact H0
  isplitl [H1]
  · iexists d1
    change _ ⊢ owns (c : Thread nD τ) (st0_1 t) fullShare
      ((cfg0.win 1).fill (cfg0.grid.coords t) d1 ((cfg0.win 1).cut (cfg0.grid.coords t) ((dats m 0 c).after 1 t)))
    rw [cut1]; try iexact H1
  isplitl [H2]
  · iexists d2
    change _ ⊢ owns (c : Thread nD τ) (st0_2 t) fullShare
      ((cfg0.win 2).fill (cfg0.grid.coords t) d2 ((cfg0.win 2).cut (cfg0.grid.coords t) ((dats m 0 c).after 2 t)))
    rw [cut2]; try iexact H2
  isplitl [H3]
  · iexists d3
    change _ ⊢ owns (c : Thread nD τ) (st0_3 t) fullShare
      ((cfg0.win 3).fill (cfg0.grid.coords t) d3 ((cfg0.win 3).cut (cfg0.grid.coords t) ((dats m 0 c).after 3 t)))
    rw [cut3]; try iexact H3
  isplitl [H4]
  · iexists d4
    change _ ⊢ owns (c : Thread nD τ) (st0_4 t) fullShare
      ((cfg0.win 4).fill (cfg0.grid.coords t) d4 ((cfg0.win 4).cut (cfg0.grid.coords t) ((dats m 0 c).after 4 t)))
    rw [cut4]; try iexact H4
  isplitl [H5]
  · iexists (outEven (F := Ideal) (iblk m c 0 t) ((cfg0.win 1).fill (cfg0.grid.coords t) d1 (iblk m c 1 t))
      ((cfg0.win 2).fill (cfg0.grid.coords t) d2 (iblk m c 2 t)) ((cfg0.win 4).fill (cfg0.grid.coords t) d4 (iblk m c 4 t)))
    change _ ⊢ owns (c : Thread nD τ) (st0_5 t) fullShare
      ((cfg0.win 5).fill (cfg0.grid.coords t) _ ((cfg0.win 5).cut (cfg0.grid.coords t) ((dats m 0 c).after 5 t)))
    rw [cut5, ← edge_even m c t d1 d2 d4, Window.fill_cut]; try iexact H5
  · iexists (outOdd (F := Ideal) (iblk m c 0 t) ((cfg0.win 1).fill (cfg0.grid.coords t) d1 (iblk m c 1 t))
      ((cfg0.win 3).fill (cfg0.grid.coords t) d3 (iblk m c 3 t)) ((cfg0.win 4).fill (cfg0.grid.coords t) d4 (iblk m c 4 t)))
    change _ ⊢ owns (c : Thread nD τ) (st0_6 t) fullShare
      ((cfg0.win 6).fill (cfg0.grid.coords t) _ ((cfg0.win 6).cut (cfg0.grid.coords t) ((dats m 0 c).after 6 t)))
    rw [cut6, ← edge_odd m c t d1 d3 d4, Window.fill_cut]; try iexact H6

/-! ## The run -/

set_option backward.isDefEq.respectTransparency.types false in
set_option maxHeartbeats 800000 in
/-- Every execution ends, with every array of the pipeline at what the data says, every other buffer as the host
    lines after the kernel leave it, and every semaphore counter at zero. -/
theorem run_main_quiescent : θ_run defs (onTc (τ := τ) (main (F := Ideal))) (s₀ m ρ) (fun r =>
      (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arrays the pipeline leaves: the eleven blocks cover them. -/
theorem final5 (c : Dev nD) : (dats m 0 c).arrAt 5 cfg0.N = evens m c := by
  refine (dats m 0 c).arrAt_eq_of_covers 5 _ (by decide +kernel) fun t _ y => ?_
  exact congrFun (cut5 m c t) y
theorem final6 (c : Dev nD) : (dats m 0 c).arrAt 6 cfg0.N = odds m c := by
  refine (dats m 0 c).arrAt_eq_of_covers 6 _ (by decide +kernel) fun t _ y => ?_
  exact congrFun (cut6 m c t) y

/-- Every execution of the program ends with the four arguments as they began and every semaphore counter at
    zero. -/
theorem quiescent : θ_run defs (onTc (τ := τ) (main (F := Ideal))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨((h.1 c).2 main_arg0 (Pipeline.mem_restRefs_of main_arg0 (by decide) (by decide))).trans (W_main_arg0 m (dats m) c),
        ((h.1 c).1 1).trans (((dats m 0 c).arrAt_in 1 rfl _).trans ((A_eq m c 1).trans (V_main_arg1 m c))),
        ((h.1 c).2 main_arg2 (Pipeline.mem_restRefs_of main_arg2 (by decide) (by decide))).trans (W_main_arg2 m (dats m) c),
        ((h.1 c).1 4).trans (((dats m 0 c).arrAt_in 4 rfl _).trans ((A_eq m c 4).trans (V_main_arg3 m c)))⟩, h.2⟩)
    (run_main_quiescent m ρ)

end Cert.KernelIdeal.Hand

end
-- ==== Proof.KernelIdealResult.lean ====
/-
  The result of the idealized program, entry by entry: the host lines after the kernel interleave the two arrays it
  leaves, so column `n` of the result is column `n / 2` of the low-nibble product (`n` even) or of the high-nibble
  one (`n` odd); the host lines before it take the even and the odd columns of the scales.
-/
module

public import proofs.«01_k».proof.Proof.KernelIdealRun

@[expose] public section

set_option maxRecDepth 16384

noncomputable section

namespace Cert.KernelIdeal.Hand

open Idealize.ShloMosaic Idealize.ShloMosaic.TcCoe Idealize.SL.Sem
open Cert.KernelIdeal Cert.KernelIdeal.Gen Cert.Nibbles

variable (m : (ℓ : Loc nD τ sig) → Buf (Elt Ideal) ℓ) (ρ : Dev nD → PrngReg)

/-- The two halves interleaved, as the host lines do it. -/
def interleave (a b : FVec Ideal S128x2752 .bf16) : FVec Ideal S128x1x5504 .bf16 :=
  shapeCast S128x1x5504 (concatenate S128x2752x2 2
    [⟨S128x2752x1, broadcastInDim S128x2752x1 ![0, 1] bcast_S128x2752_S128x2752x1_0_1 a⟩,
      ⟨S128x2752x1, broadcastInDim S128x2752x1 ![0, 1] bcast_S128x2752_S128x2752x1_0_1 b⟩]
    concatenates_S128x2752x1_S128x2752x1_S128x2752x2_d2) shapeCasts_S128x2752x2_S128x1x5504

theorem interleave_at (a b : FVec Ideal S128x2752 .bf16) (i : Fin 128) (n : Fin 5504) :
    interleave a b (ix3 i 0 n)
      = if n.val % 2 < 1 then a (ix2 i ⟨n.val / 2, by omega⟩) else b (ix2 i ⟨n.val / 2, by omega⟩) := by
  pointwise [interleave]
  rfl

/-- What the host lines after the kernel leave in the result's buffer, whatever they start from. -/
theorem tail_of (W : Valuation τ sig (Elt Ideal)) :
    StableHlo.after (hostOps1 (F := Ideal)) W (Proc.devRef .tc main_v7)
      = interleave (W (Proc.devRef .tc main_v3_0)) (W (Proc.devRef .tc main_v3_1)) := by
  after_results_simp <;> rfl

theorem tail_result (c : Dev nD) :
    Pipeline.afterTail₀ cfgs (dats m) 0 (V0 m) [hostOps1] c main_v7 = interleave (evens m c) (odds m c) := by
  have h5 := (Pipeline.withArrays_arr spec0 winFacts0.arr_inj c (V0 m c) (fun w => (dats m 0 c).arrAt w cfg0.N) 5).trans (final5 m c)
  have h6 := (Pipeline.withArrays_arr spec0 winFacts0.arr_inj c (V0 m c) (fun w => (dats m 0 c).arrAt w cfg0.N) 6).trans (final6 m c)
  exact (tail_of _).trans (congrArg₂ interleave h5 h6)

/-- What the host lines before the kernel leave: the even and the odd columns of the scales, and the activations
    without their middle axis. -/
theorem V_main_v0 (c : Dev nD) : V m c main_v0 = Host.slice S82x2752 ![0, 0] ![1, 2]
    (show FVec Ideal S82x5504 .bf16 from m ((c.tc : Thread nD τ).loc main_arg2)) slicesBy_S82x5504_S82x2752_0s1_0s2 := by
  show StableHlo.after (hostOps0 (F := Ideal)) (fun b => m (c, b)) (Proc.devRef .tc main_v0) = _
  after_results_simp <;> rfl
theorem V_main_v1 (c : Dev nD) : V m c main_v1 = Host.slice S82x2752 ![0, 1] ![1, 2]
    (show FVec Ideal S82x5504 .bf16 from m ((c.tc : Thread nD τ).loc main_arg2)) slicesBy_S82x5504_S82x2752_0s1_1s2 := by
  show StableHlo.after (hostOps0 (F := Ideal)) (fun b => m (c, b)) (Proc.devRef .tc main_v1) = _
  after_results_simp <;> rfl
theorem V_main_v2 (c : Dev nD) : V m c main_v2 = shapeCast S128x10496
    (show FVec Ideal S128x1x10496 .bf16 from m ((c.tc : Thread nD τ).loc main_arg0)) shapeCasts_S128x1x10496_S128x10496 := by
  show StableHlo.after (hostOps0 (F := Ideal)) (fun b => m (c, b)) (Proc.devRef .tc main_v2) = _
  after_results_simp <;> rfl

theorem even_at (c : Dev nD) (i : Fin 128) (j : Fin 2752) : evens m c (ix2 i j)
    = ∑ k : Fin 10496, (show FVec Ideal S128x1x10496 .bf16 from m ((c.tc : Thread nD τ).loc main_arg0)) (ix3 i 0 k)
      * ((lo ((show Vec Ideal S10496x2752 .i8 from m ((c.tc : Thread nD τ).loc main_arg1)) (ix2 k j))
          - lo ((show Vec Ideal S82x2752 .i8 from m ((c.tc : Thread nD τ).loc main_arg3)) (ix2 (grp k) j)))
        * (show FVec Ideal S82x5504 .bf16 from m ((c.tc : Thread nD τ).loc main_arg2)) (ix2 (grp k) ⟨2 * j.val, by omega⟩)) := by
  refine (product_at _ _ _ _ _ _ _).trans ?_
  rw [V_main_v2, V_main_v0, V_main_arg1, V_main_arg3]
  pointwise

theorem odd_at (c : Dev nD) (i : Fin 128) (j : Fin 2752) : odds m c (ix2 i j)
    = ∑ k : Fin 10496, (show FVec Ideal S128x1x10496 .bf16 from m ((c.tc : Thread nD τ).loc main_arg0)) (ix3 i 0 k)
      * ((hi ((show Vec Ideal S10496x2752 .i8 from m ((c.tc : Thread nD τ).loc main_arg1)) (ix2 k j))
          - hi ((show Vec Ideal S82x2752 .i8 from m ((c.tc : Thread nD τ).loc main_arg3)) (ix2 (grp k) j)))
        * (show FVec Ideal S82x5504 .bf16 from m ((c.tc : Thread nD τ).loc main_arg2)) (ix2 (grp k) ⟨1 + 2 * j.val, by omega⟩)) := by
  refine (product_at _ _ _ _ _ _ _).trans ?_
  rw [V_main_v2, V_main_v1, V_main_arg1, V_main_arg3]
  pointwise

/-- Every execution ends with the result's buffer at the interleaved products and the arguments as they began. -/
theorem run : θ_run defs (onTc (τ := τ) (main (F := Ideal))) ⟨m, fun _ => 0, ρ⟩ (fun r => ∀ c : Dev nD,
      r.2.mem ((c.tc : Thread nD τ).loc main_v7) = interleave (evens m c) (odds m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v7 (Pipeline.mem_restRefs_of main_v7 (by decide) (by decide))).trans (tail_result m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).1 4).trans (((dats m 0 c).arrAt_in 4 rfl _).trans ((A_eq m c 4).trans (V_main_arg3 m c)))⟩)
    (run_main m ρ)

end Cert.KernelIdeal.Hand

end
-- ==== Proof.ReferenceValue.lean ====
/-
  The reference program read entry by entry over the extended reals: column `n` of the result is the sum over the
  10496 contracted positions of an activation times the dequantized weight of column `n`, whose code is the low
  four bits (`n` even) or the high four bits (`n` odd) of the byte in column `n / 2`.
-/
module

public import proofs.«01_k».proof.Proof.Gen.ReferenceIdeal.Read
public import proofs.«01_k».proof.Proof.Nibbles
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read Cert.Nibbles

variable (x : FVec Ideal S128x1x10496 .bf16) (q : Vec Ideal S10496x2752 .i8) (s : FVec Ideal S82x5504 .bf16)
  (z : Vec Ideal S82x2752 .i8)

/-- The unpacked zero points at the even columns are the low halves of the packed ones, -/
theorem zeroEven_at (g : Fin 82) (j : Fin 2752) : val_main_v15 (F := Ideal) z (ix2 g j) = lo (z (ix2 g j)) := by
  pointwise [val_main_v15, val_main_v14, val_main_v13, val_main_v12, val_main_v10, val_main_v11, val_main_v7,
    val_main_v9, val_main_v1, val_main_v6, val_main_v8, val_main_c_1, val_main_c_2]
  rw [dif_pos (by omega), sitofp_lo]
/-- and at the odd columns the high halves. -/
theorem zeroOdd_at (g : Fin 82) (j : Fin 2752) : val_main_v26 (F := Ideal) z (ix2 g j) = hi (z (ix2 g j)) := by
  pointwise [val_main_v26, val_main_v14, val_main_v13, val_main_v12, val_main_v10, val_main_v11, val_main_v7,
    val_main_v9, val_main_v1, val_main_v6, val_main_v8, val_main_c_1, val_main_c_2]
  rw [dif_neg (by omega), sitofp_hi]

/-- The dequantized weights of the even columns, -/
theorem weightEven_at (k : Fin 10496) (j : Fin 2752) : val_main_v25 (F := Ideal) q s z (ix2 k j)
    = (lo (q (ix2 k j)) - lo (z (ix2 (grp k) j))) * s (ix2 (grp k) ⟨2 * j.val, by omega⟩) := by
  pointwise [val_main_v25, val_main_v24, val_main_v21, val_main_v18, val_main_v17, val_main_v3, val_main_v0,
    val_main_v2, val_main_c, val_main_v20, val_main_v19, val_main_v23, val_main_v22, val_main_v16]
  rw [sitofp_lo, zeroEven_at]
/-- and of the odd ones. -/
theorem weightOdd_at (k : Fin 10496) (j : Fin 2752) : val_main_v36 (F := Ideal) q s z (ix2 k j)
    = (hi (q (ix2 k j)) - hi (z (ix2 (grp k) j))) * s (ix2 (grp k) ⟨1 + 2 * j.val, by omega⟩) := by
  pointwise [val_main_v36, val_main_v35, val_main_v32, val_main_v29, val_main_v28, val_main_v5, val_main_v0,
    val_main_v4, val_main_c_0, val_main_v31, val_main_v30, val_main_v34, val_main_v33, val_main_v27]
  rw [sitofp_hi, zeroOdd_at]

/-- The result at batch row `i` and column `n`. -/
theorem result_at (i : Fin 128) (n : Fin 5504) : val_main_v43 (F := Ideal) x q s z (ix3 i 0 n)
    = if n.val % 2 < 1 then
        ∑ k : Fin 10496, x (ix3 i 0 k) * ((lo (q (ix2 k ⟨n.val / 2, by omega⟩)) - lo (z (ix2 (grp k) ⟨n.val / 2, by omega⟩)))
          * s (ix2 (grp k) ⟨2 * (n.val / 2), by omega⟩))
      else
        ∑ k : Fin 10496, x (ix3 i 0 k) * ((hi (q (ix2 k ⟨n.val / 2, by omega⟩)) - hi (z (ix2 (grp k) ⟨n.val / 2, by omega⟩)))
          * s (ix2 (grp k) ⟨1 + 2 * (n.val / 2), by omega⟩)) := by
  pointwise [val_main_v43, val_main_v42, val_main_v41, val_main_v40, val_main_v39, val_main_v38, val_main_v37]
  simp only [weightEven_at, weightOdd_at]
  rfl

end Cert.ReferenceIdeal.Hand

end
-- ==== Proof.lean ====
/-
  The certificate: the three programs run and leave their arguments and every counter as they began; the idealized
  program is the machine program read over the extended reals; and over the extended reals the kernel and the
  reference end with equal results from equal arguments.

  Where the work is: `KernelBody`, `KernelFrame` (the machine program's frame); `KernelIdealBody`,
  `KernelIdealValue`, `KernelIdealEdge`, `KernelIdealRun`, `KernelIdealResult` (what the idealized program
  computes, from one step of its loop to the whole result); `ReferenceValue` (what the reference computes);
  `Nibbles` (the two halves of a byte). Here the two results are set side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealResult
public import proofs.«01_k».proof.Proof.ReferenceValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The machine program runs, its arguments and every counter end as they began. -/
theorem frame_kernel : Cert.quiescent_Kernel := fun m g _ => Cert.Kernel.Hand.quiescent m g
/-- So does its reading over the extended reals, -/
theorem frame_ideal : Cert.quiescent_KernelIdeal := fun m g _ => Cert.KernelIdeal.Hand.quiescent m g
/-- and the reference's. -/
theorem frame_reference : Cert.quiescent_ReferenceIdeal := fun m g _ =>
  (θ_run _ _ _).mono (fun r h => ⟨fun c => (h c).2, sem_eq_zero_of_no_sems (by decide) r.2⟩) (Cert.ReferenceIdeal.Value.run m g)
/-- Entry by entry, the reference's result is the idealized kernel's: both are the same sum over the 10496
    contracted positions, of the low-nibble weights in the even columns and the high-nibble ones in the odd. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v43 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Hand.interleave (Cert.KernelIdeal.Hand.evens m c) (Cert.KernelIdeal.Hand.odds m c) := by
  have at_ix3 : ∀ (i : Fin 128) (n : Fin 5504), Cert.ReferenceIdeal.Read.val_main_v43 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (ix3 i 0 n)
      = Cert.KernelIdeal.Hand.interleave (Cert.KernelIdeal.Hand.evens m c) (Cert.KernelIdeal.Hand.odds m c) (ix3 i 0 n) := by
    intro i n
    refine (Cert.ReferenceIdeal.Hand.result_at _ _ _ _ i n).trans
      (Eq.trans ?_ (Cert.KernelIdeal.Hand.interleave_at _ _ i n).symm)
    split
    · exact (Cert.KernelIdeal.Hand.even_at m c i _).symm
    · exact (Cert.KernelIdeal.Hand.odd_at m c i _).symm
  funext p
  have hp : p = ix3 (p 0) 0 (p 2) := (eq_ix3 p).trans (congrArg (fun u : Fin 1 => ix3 (p 0) u (p 2)) (Subsingleton.elim (α := Fin 1) (p 1) 0))
  rw [hp]
  exact at_ix3 (p 0) (p 2)

/-- From memories that agree on the arguments the two programs end with equal results. -/
theorem algebraic : Cert.algebraic_KernelIdeal_ReferenceIdeal := by
  intro m g m' g' _ hagree
  refine ⟨fun c => Cert.KernelIdeal.Hand.interleave (Cert.KernelIdeal.Hand.evens m c) (Cert.KernelIdeal.Hand.odds m c),
    Cert.KernelIdeal.Hand.run m g, (θ_run _ _ _).mono (fun r h c => ⟨(h c).1.trans ?_, (h c).2⟩)
      (Cert.ReferenceIdeal.Value.run m' g')⟩
  refine (Cert.ReferenceIdeal.Read.val_main_v43_eq _ _ _ _).trans ?_
  rw [(hagree c).1, (hagree c).2.1, (hagree c).2.2.1, (hagree c).2.2.2]
  exact results_agree m c

theorem claim : Cert.Claim := ⟨Cert.Kernel.Gen.facts, Cert.KernelIdeal.Gen.facts, Cert.ReferenceIdeal.Gen.facts,
  frame_kernel, frame_ideal, frame_reference, trivial, algebraic⟩

end Cert.Proof

end
